-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S4096x1024 : Shape := ⟨2, ![4096, 1024]⟩
abbrev S512 : Shape := ⟨1, ![512]⟩
abbrev S512x1024 : Shape := ⟨2, ![512, 1024]⟩
abbrev S8192x1024 : Shape := ⟨2, ![8192, 1024]⟩
abbrev S8192 : Shape := ⟨1, ![8192]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S4096x1024 .f32) (main_arg1 : IVec S512 32) (main_arg2 : FVec F S512x1024 .f32) (main_arg3 : FVec F S8192x1024 .f32) (main_arg4 : FVec F S8192 .f32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 1 := constantI S_ 1 1#1
  let main_v2 : IVec S_ 1 := (fun x v => Host.reduce IntOp.andi x v reducesTo_S512_S_d0 h_S_) main_v1 main_c_0
  main_v2
-- ==== Kernel.lean ====
abbrev S4096x1024 : Shape := ⟨2, ![4096, 1024]⟩
abbrev S512 : Shape := ⟨1, ![512]⟩
abbrev S512x1024 : Shape := ⟨2, ![512, 1024]⟩
abbrev S8192x1024 : Shape := ⟨2, ![8192, 1024]⟩
abbrev S8192 : Shape := ⟨1, ![8192]⟩
abbrev S1x512 : Shape := ⟨2, ![1, 512]⟩
abbrev S512x1 : Shape := ⟨2, ![512, 1]⟩
abbrev S1x8192 : Shape := ⟨2, ![1, 8192]⟩
abbrev S4096x8192 : Shape := ⟨2, ![4096, 8192]⟩
abbrev S256x1024 : Shape := ⟨2, ![256, 1024]⟩
abbrev S1x256 : Shape := ⟨2, ![1, 256]⟩
abbrev S4096x256 : Shape := ⟨2, ![4096, 256]⟩
abbrev S512x512 : Shape := ⟨2, ![512, 512]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S512, .i32⟩
  | .hbm, ⟨2, _⟩ => ⟨S512x1024, .f32⟩
  | .hbm, ⟨3, _⟩ => ⟨S8192x1024, .f32⟩
  | .hbm, ⟨4, _⟩ => ⟨S8192, .f32⟩
  | .hbm, ⟨5, _⟩ => ⟨S1x512, .i32⟩
  | .hbm, ⟨6, _⟩ => ⟨S512x1, .i32⟩
  | .hbm, ⟨7, _⟩ => ⟨S1x8192, .f32⟩
  | .hbm, ⟨8, _⟩ => ⟨S4096x8192, .f32⟩
  | .local _ .vmem, ⟨0, _⟩ => ⟨S4096x1024, .f32⟩
  | .local _ .vmem, ⟨1, _⟩ => ⟨S256x1024, .f32⟩
  | .local _ .vmem, ⟨2, _⟩ => ⟨S256x1024, .f32⟩
  | .local _ .vmem, ⟨3, _⟩ => ⟨S512x1024, .f32⟩
  | .local _ .vmem, ⟨4, _⟩ => ⟨S1x512, .i32⟩
  | .local _ .vmem, ⟨5, _⟩ => ⟨S512x1, .i32⟩
  | .local _ .vmem, ⟨6, _⟩ => ⟨S1x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S4096x1024, .bf16⟩
  | .local _ .vmem, ⟨11, _⟩ => ⟨S512x1024, .bf16⟩
  | .local _ .vmem, ⟨12, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x1024 : Shape := ⟨2, ![4096, 1024]⟩
abbrev S512 : Shape := ⟨1, ![512]⟩
abbrev S512x1024 : Shape := ⟨2, ![512, 1024]⟩
abbrev S8192x1024 : Shape := ⟨2, ![8192, 1024]⟩
abbrev S8192 : Shape := ⟨1, ![8192]⟩
abbrev S_ : Shape := ⟨0, ![]⟩
abbrev S512x1 : Shape := ⟨2, ![512, 1]⟩
abbrev S1024x8192 : Shape := ⟨2, ![1024, 8192]⟩
abbrev S4096x8192 : Shape := ⟨2, ![4096, 8192]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512, .i32⟩
  | .hbm, ⟨2, _⟩ => ⟨S512x1024, .f32⟩
  | .hbm, ⟨3, _⟩ => ⟨S8192x1024, .f32⟩
  | .hbm, ⟨4, _⟩ => ⟨S8192, .f32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S8192x1024, .f32⟩
  | .hbm, ⟨14, _⟩ => ⟨S1024x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.Body.lean ====
/- What the kernel's body leaves at every grid point, as the payloads its stores write: the three scratch arrays filled at
   the first point and carried, and the result's block. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- At the first point: the scratch arrays are filled from the blocks, and the result's block is computed from them. -/
theorem st_A (c : Dev nD) (t : Fin cfg0.N) (h0 : t.val % 32 = 0) :
    outsAt0 m c t.val t.isLt =
      (k0_pay1 (k0_pay5 (grid0.coords t) (iblk m c 3 t) (k0_pay4 (iblk m c 4 t) (iblk m c 3 t)) (k0_pay3 (iblk m c 2 t)) (iblk m c 1 t)
          (k0_pay2 (iblk m c 0 t))) (iblk m c 5 t),
        k0_pay2 (iblk m c 0 t), k0_pay3 (iblk m c 2 t), k0_pay4 (iblk m c 4 t) (iblk m c 3 t)) := by
  rw [outsAt0_A m c t h0]
  refine Prod.ext ?_ (Prod.ext ?_ (Prod.ext ?_ ?_))
  · dsimp only
    frame_out
  · dsimp only
    frame_out
  · dsimp only
    frame_out
  · dsimp only
    frame_out

/-- At every later point: the scratch arrays are as the point before left them, and the result's block is computed from them. -/
theorem st_B (c : Dev nD) (t : Fin cfg0.N) (h0 : ¬t.val % 32 = 0) (p : t.val - 1 < cfg0.N) :
    outsAt0 m c t.val t.isLt =
      (k0_pay1 (k0_pay5 (grid0.coords t) (iblk m c 3 t) (outsAt0 m c (t.val - 1) p).2.2.2 (outsAt0 m c (t.val - 1) p).2.2.1 (iblk m c 1 t)
          (outsAt0 m c (t.val - 1) p).2.1) (iblk m c 5 t),
        (outsAt0 m c (t.val - 1) p).2) := by
  rw [outsAt0_B m c t h0]
  refine Prod.ext ?_ ?_
  · dsimp only
    frame_out
    simp only [read_unread_whole]
  · rfl

/-- The windows' block indices at a grid point: the operands held whole sit at block (0, 0), the weight rows, the bias
    and the result move with the point. -/
theorem win_index : ∀ t : Fin cfg0.N, win0_0.index t = ![0, 0] ∧ win0_1.index t = ![t.val, 0] ∧ win0_2.index t = ![0, 0]
    ∧ win0_3.index t = ![0, 0] ∧ win0_4.index t = ![0, 0] ∧ win0_5.index t = ![0, t.val] :=
  (by decide +kernel : ∀ t : Fin grid0.N, _)

/-- A grid point's one coordinate is its number. -/
theorem coords_val : ∀ t : Fin cfg0.N, (grid0.coords t 0).val = t.val :=
  (by decide +kernel : ∀ t : Fin grid0.N, _)

/-- Window 0's block is the whole of `x`. -/
theorem blk_x (c : Dev nD) (t : Fin cfg0.N) (b : Fin 4096) (k : Fin 1024) :
    (iblk m c 0 t : Vec F S4096x1024 .f32) (ix2 b k) = m ((c : Thread nD τ).loc main_arg0) (ix2 b k) := by
  have h := win_index t
  blk_ext [iblk, V, h.1]

/-- Window 1's block at point `t` is the 256 rows of the weight from row `256 t` on. -/
theorem blk_w (c : Dev nD) (t : Fin cfg0.N) (q : Fin 256) (k : Fin 1024) (r : Fin 8192) (hr : r.val = 256 * t.val + q.val) :
    (iblk m c 1 t : Vec F S256x1024 .f32) (ix2 q k) = m ((c : Thread nD τ).loc main_arg3) (ix2 r k) := by
  have h := win_index t
  blk_ext [iblk, V, h.2.1]

/-- Window 2's block is the whole of the updates. -/
theorem blk_upd (c : Dev nD) (t : Fin cfg0.N) (s : Fin 512) (k : Fin 1024) :
    (iblk m c 2 t : Vec F S512x1024 .f32) (ix2 s k) = m ((c : Thread nD τ).loc main_arg2) (ix2 s k) := by
  have h := win_index t
  blk_ext [iblk, V, h.2.2.1]

/-- Window 3's block is the indices as a row. -/
theorem blk_row (c : Dev nD) (t : Fin cfg0.N) (s : Fin 512) :
    (iblk m c 3 t : Vec F S1x512 .i32) (ix2 0 s) = m ((c : Thread nD τ).loc main_arg1) (ix1 s) := by
  have h := win_index t
  blk_point [iblk, V, h.2.2.2.1]

/-- Window 4's block is the indices as a column. -/
theorem blk_col (c : Dev nD) (t : Fin cfg0.N) (s : Fin 512) :
    (iblk m c 4 t : Vec F S512x1 .i32) (ix2 s 0) = m ((c : Thread nD τ).loc main_arg1) (ix1 s) := by
  have h := win_index t
  blk_point [iblk, V, h.2.2.2.2.1]

/-- Window 5's block at point `t` is the 256 entries of the bias from entry `256 t` on, as a row. -/
theorem blk_bias (c : Dev nD) (t : Fin cfg0.N) (q : Fin 256) (r : Fin 8192) (hr : r.val = 256 * t.val + q.val) :
    (iblk m c 5 t : Vec F S1x256 .f32) (ix2 0 q) = m ((c : Thread nD τ).loc main_arg4) (ix1 r) := by
  have h := win_index t
  blk_point [iblk, V, h.2.2.2.2.2]

end Cert.KernelIdeal.Body

end
-- ==== Proof.Select.lean ====
/- The body's payloads read at an index over the extended reals: the mask that keeps the last update of every row, and
   the block of the product, in which a row is its last update where it has one and the weight's row elsewhere. -/
module

public import proofs.«01_k».proof.Proof.Gen.KernelIdeal.Skeleton
public import Idealize.ShloMosaic.Lib.Pointwise

@[expose] public section

set_option maxRecDepth 16384

noncomputable section

namespace Cert.KernelIdeal.Body

open Cert.KernelIdeal Cert.KernelIdeal.Gen Idealize.ShloMosaic

/-! ## Constants and maxima -/

/-- The float pattern of minus infinity denotes the least extended real. -/
theorem ofBits_neg_inf : Ideal.ofBits .f32 4286578688#32 = ⊥ := by
  simp [Ideal.ofBits, Ideal.ieee]

/-- The float pattern of one half denotes a number that is at least zero and below one. -/
theorem ofBits_half : 0 ≤ Ideal.ofBits .f32 1056964608#32 ∧ Ideal.ofBits .f32 1056964608#32 < 1 := by
  have h : Ideal.ofBits .f32 1056964608#32 = ((1 / 2 : ℝ) : EReal) := by
    simp [Ideal.ofBits, Ideal.ieee, -EReal.coe_mul]; norm_num
  rw [h]
  constructor
  · exact EReal.coe_nonneg.2 (by norm_num)
  · rw [show (1 : EReal) = ((1 : ℝ) : EReal) by norm_cast]
    exact EReal.coe_lt_coe_iff.2 (by norm_num)

/-- The maximum of a list of ones and zeros is positive exactly when some one is among them. -/
theorem any_fold {n : ℕ} (p : Fin n → Prop) [DecidablePred p] :
    0 < Finset.fold max (⊥ : EReal) (fun x => if p x then 1 else 0) (Finset.univ : Finset (Fin n)) ↔ ∃ x, p x := by
  rw [Finset.lt_fold_max]
  constructor
  · rintro (h | ⟨x, -, h⟩)
    · exact absurd h (by simp)
    · by_contra hn
      rw [if_neg fun hx => hn ⟨x, hx⟩] at h
      exact lt_irrefl _ h
  · rintro ⟨x, hx⟩
    exact Or.inr ⟨x, Finset.mem_univ x, by rw [if_pos hx]; exact zero_lt_one⟩

/-- A conjunction of two bits, each the truth of a proposition, selects as the conjunction does. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- The same conjunction widened and converted is one or zero. -/
theorem toFloat_and (p q : Prop) [Decidable p] [Decidable q] :
    (FloatOps.sitofp (F := Ideal) .f32 (BitVec.setWidth 32 (IntOp.andi (BitVec.ofBool (decide p)) (BitVec.ofBool (decide q)))) : EReal)
      = if p ∧ q then 1 else 0 := by
  show (((BitVec.setWidth 32 (IntOp.andi (BitVec.ofBool (decide p)) (BitVec.ofBool (decide q)))).toInt : ℝ) : EReal) = _
  by_cases hp : p <;> by_cases hq : q <;> simp [hp, hq, IntOp.andi]

/-! ## The payloads -/

/-- What the first grid point stores of `x`: `x`. -/
theorem pay2_apply (x : Vec Ideal S4096x1024 .f32) (b : Fin 4096) (k : Fin 1024) : k0_pay2 x (ix2 b k) = x (ix2 b k) := by
  pointwise [k0_pay2]

/-- What the first grid point stores of the updates: the updates. -/
theorem pay3_apply (x : Vec Ideal S512x1024 .f32) (b : Fin 512) (k : Fin 1024) : k0_pay3 x (ix2 b k) = x (ix2 b k) := by
  pointwise [k0_pay3]

/-- The stored mask at update `s`: zero where a later update has the same index, one elsewhere. -/
theorem pay4_apply (idx : Fin 512 → BitVec 32) (col : Vec Ideal S512x1 .i32) (row : Vec Ideal S1x512 .i32)
    (hcol : ∀ s, col (ix2 s 0) = idx s) (hrow : ∀ s, row (ix2 0 s) = idx s) (s : Fin 512) :
    k0_pay4 (F := Ideal) col row (ix2 0 s) = if ∃ t, idx t = idx s ∧ s < t then 0 else 1 := by
  have hlt : ∀ t : Fin 512, IntOp.cmpi .sgt (BitVec.ofNat 32 t.val) (BitVec.ofNat 32 s.val) = BitVec.ofBool (decide (s < t)) := by
    intro t
    show BitVec.ofBool (BitVec.slt _ _) = _
    congr 1
    rw [BitVec.slt_eq_decide, BitVec.toInt_ofNat', BitVec.toInt_ofNat', decide_eq_decide, Fin.lt_def]
    have := t.isLt
    have := s.isLt
    rw [Int.bmod_def, Int.bmod_def]
    omega
  have heq : ∀ t : Fin 512, IntOp.cmpi .eq (idx t) (idx s) = BitVec.ofBool (decide (idx t = idx s)) := by
    intro t
    show BitVec.ofBool (idx t == idx s) = _
    congr 1
  pointwise [k0_pay4]
  simp only [hcol, hrow, hlt, heq, select_and, ofBits_neg_inf, any_fold]

/-- The stored block of the result: the product plus the bias, cut off below at zero. -/
theorem pay1_apply (y : FVec Ideal S4096x256 .f32) (bias : Vec Ideal S1x256 .f32) (b : Fin 4096) (q : Fin 256) :
    k0_pay1 y bias (ix2 b q) = max (y (ix2 b q) + bias (ix2 0 q)) 0 := by
  pointwise [k0_pay1]

/-- The product's element, with the row of the merged weight that it multiplies by spelt out: where some update is
    selected for the row, the sum of the updates selected; the weight's row elsewhere. -/
theorem pay5_apply (i : grid0.Coords) (idx : Fin 512 → BitVec 32) (win : Fin 512 → Prop) [DecidablePred win] (v : BitVec 32)
    (row : Vec Ideal S1x512 .i32) (mask : Vec Ideal S1x512 .f32) (upd : Vec Ideal S512x1024 .bf16)
    (w : Vec Ideal S256x1024 .f32) (x : Vec Ideal S4096x1024 .bf16) (b : Fin 4096) (q : Fin 256)
    (hv : IntOp.addi (BitVec.ofNat 32 q.val) (Scalar.muli (BitVec.ofNat 32 (i 0).val) 256#32) = v)
    (hrow : ∀ s, row (ix2 0 s) = idx s) (hmask : ∀ s, mask (ix2 0 s) = if win s then 1 else 0) :
    k0_pay5 i row mask upd w x (ix2 b q) = ∑ k : Fin 1024, x (ix2 b k) *
      (if ∃ s, v = idx s ∧ win s then ∑ s : Fin 512, (if v = idx s ∧ win s then 1 else 0) * upd (ix2 s k) else w (ix2 q k)) := by
  have heq : ∀ t : Fin 512, IntOp.cmpi .eq v (idx t) = BitVec.ofBool (decide (v = idx t)) := by
    intro t
    show BitVec.ofBool (v == idx t) = _
    congr 1
  have hwin : ∀ t : Fin 512, decide (Ideal.ofBits .f32 1056964608#32 < if win t then 1 else 0) = decide (win t) := by
    intro t
    rw [decide_eq_decide]
    by_cases h : win t
    · simp only [h, if_true, ofBits_half.2]
    · simp only [h, if_false, iff_false, not_lt]
      exact ofBits_half.1
  pointwise [k0_pay5]
  simp only [hv, hrow, hmask, heq, hwin, select_and, toFloat_and, ofBits_neg_inf, any_fold]

end Cert.KernelIdeal.Body

end
-- ==== Proof.Merged.lean ====
/- One element of the weight after the updates, as a function of the index words, the updates and the weight; the kernel's
   result array in terms of it. -/
module

public import proofs.«01_k».proof.Proof.Body
public import proofs.«01_k».proof.Proof.Select

@[expose] public section

set_option maxRecDepth 16384

noncomputable section

namespace Cert.KernelIdeal.Body

open Cert.KernelIdeal Cert.KernelIdeal.Gen Idealize.ShloMosaic Idealize.ShloMosaic.TcCoe Idealize.SL.Sem
open scoped Classical

/-! ## The merged row -/

/-- No later update has update `s`'s index. -/
def Last (idx : Fin 512 → BitVec 32) (s : Fin 512) : Prop := ¬∃ t, idx t = idx s ∧ s < t

/-- One element of the row whose number is the word `v`: the sum of the updates that have that index and come last,
    of which there is at most one, or the weight's element `w` where no update has the index. -/
def merged (idx : Fin 512 → BitVec 32) (upd : Fin 512 → EReal) (w : EReal) (v : BitVec 32) : EReal :=
  if ∃ s, v = idx s ∧ Last idx s then ∑ s : Fin 512, (if v = idx s ∧ Last idx s then 1 else 0) * upd s else w

/-- Where update `s` has the index and no later one does, the element is `s`'s. -/
theorem merged_hit (idx : Fin 512 → BitVec 32) (upd : Fin 512 → EReal) (w : EReal) (v : BitVec 32) (s : Fin 512)
    (hs : idx s = v) (hlast : ∀ t, s < t → idx t ≠ v) : merged idx upd w v = upd s := by
  have hS : v = idx s ∧ Last idx s := ⟨hs.symm, fun ⟨t, ht, hst⟩ => hlast t hst (ht.trans hs)⟩
  unfold merged
  rw [if_pos ⟨s, hS⟩, Finset.sum_eq_single s, if_pos hS, one_mul]
  · intro t _ hts
    rw [if_neg, zero_mul]
    rintro ⟨hv, hl⟩
    rcases lt_or_gt_of_ne hts with h | h
    · exact hl ⟨s, hs.trans hv, h⟩
    · exact hlast t h hv.symm
  · exact fun h => absurd (Finset.mem_univ s) h

/-- Where no update has the index, the element is the weight's. -/
theorem merged_none (idx : Fin 512 → BitVec 32) (upd : Fin 512 → EReal) (w : EReal) (v : BitVec 32)
    (hnone : ∀ t, idx t ≠ v) : merged idx upd w v = w := by
  unfold merged
  rw [if_neg]
  rintro ⟨s, hv, -⟩
  exact hnone s hv.symm

/-- Of the updates with one index there is none, or there is a last. -/
theorem last_cases (idx : Fin 512 → BitVec 32) (v : BitVec 32) :
    (∀ t, idx t ≠ v) ∨ ∃ s, idx s = v ∧ ∀ t, s < t → idx t ≠ v := by
  by_cases h : ∃ s, idx s = v
  · right
    have hne : (Finset.univ.filter fun s => idx s = v).Nonempty := h.imp fun s hs => Finset.mem_filter.2 ⟨Finset.mem_univ s, hs⟩
    refine ⟨(Finset.univ.filter fun s => idx s = v).max' hne, (Finset.mem_filter.1 (Finset.max'_mem _ hne)).2, fun t ht htv => ?_⟩
    exact absurd (Finset.le_max' _ t (Finset.mem_filter.2 ⟨Finset.mem_univ t, htv⟩)) (not_le.2 ht)
  · exact Or.inl fun t ht => h ⟨t, ht⟩

/-- One element of the result: row `b` of `x` times row `r` of the merged weight, plus the bias, cut off below at zero. -/
def value (x : Vec Ideal S4096x1024 .f32) (idx : Vec Ideal S512 .i32) (upd : Vec Ideal S512x1024 .f32) (w : Vec Ideal S8192x1024 .f32)
    (bias : Vec Ideal S8192 .f32) (b : Fin 4096) (r : Fin 8192) : EReal :=
  max ((∑ k : Fin 1024, x (ix2 b k) * merged (fun s => idx (ix1 s)) (fun s => upd (ix2 s k)) (w (ix2 r k)) (BitVec.ofNat 32 r.val))
    + bias (ix1 r)) 0

/-! ## The state after every grid point -/

variable (m : (ℓ : Loc nD τ sig) → Buf (Elt Ideal) ℓ)

/-- The index words of the updates, as the launch finds them. -/
def words (c : Dev nD) (s : Fin 512) : BitVec 32 := m ((c : Thread nD τ).loc main_arg1) (ix1 s)

/-- The scratch arrays after every grid point: `x`, the updates, and the mask of the updates that come last. -/
theorem scratch (c : Dev nD) : ∀ (n : ℕ) (h : n < cfg0.N),
    (∀ b k, (outsAt0 m c n h).2.1 (ix2 b k) = m ((c : Thread nD τ).loc main_arg0) (ix2 b k))
    ∧ (∀ s k, (outsAt0 m c n h).2.2.1 (ix2 s k) = m ((c : Thread nD τ).loc main_arg2) (ix2 s k))
    ∧ (∀ s, (outsAt0 m c n h).2.2.2 (ix2 0 s) = if Last (words m c) s then 1 else 0)
  | 0, h => by
    have e := st_A m c ⟨0, h⟩ rfl
    rw [show outsAt0 m c 0 h = _ from e]
    refine ⟨fun b k => ?_, fun s k => ?_, fun s => ?_⟩
    · exact (pay2_apply _ b k).trans (blk_x m c _ b k)
    · exact (pay3_apply _ s k).trans (blk_upd m c _ s k)
    · have e4 := pay4_apply (words m c) (iblk m c 4 ⟨0, h⟩) (iblk m c 3 ⟨0, h⟩) (blk_col m c ⟨0, h⟩) (blk_row m c ⟨0, h⟩) s
      dsimp only
      rw [e4]
      by_cases hl : ∃ t, words m c t = words m c s ∧ s < t
      · rw [if_pos hl, if_neg (fun h : Last (words m c) s => h hl)]
      · rw [if_neg hl, if_pos (show Last (words m c) s from hl)]
  | n + 1, h => by
    have hN : cfg0.N = 32 := N_0
    have hB : ¬(⟨n + 1, h⟩ : Fin cfg0.N).val % 32 = 0 := by dsimp only; omega
    have e : (outsAt0 m c (n + 1) h).2 = (outsAt0 m c n (Nat.lt_of_succ_lt h)).2 :=
      (congrArg Prod.snd (st_B m c ⟨n + 1, h⟩ hB (Nat.lt_of_succ_lt h))).trans rfl
    rw [e]
    exact scratch c n _

/-- The block of the result that a grid point leaves. -/
theorem block (c : Dev nD) (t : Fin cfg0.N) (b : Fin 4096) (q : Fin 256) (r : Fin 8192) (hr : r.val = 256 * t.val + q.val) :
    (outsAt0 m c t.val t.isLt).1 (ix2 b q) =
      value (m ((c : Thread nD τ).loc main_arg0)) (m ((c : Thread nD τ).loc main_arg1)) (m ((c : Thread nD τ).loc main_arg2))
        (m ((c : Thread nD τ).loc main_arg3)) (m ((c : Thread nD τ).loc main_arg4)) b r := by
  have hv : IntOp.addi (BitVec.ofNat 32 q.val) (Scalar.muli (BitVec.ofNat 32 (grid0.coords t 0).val) 256#32) = BitVec.ofNat 32 r.val := by
    rw [coords_val, hr]
    show BitVec.ofNat 32 q.val + BitVec.ofNat 32 t.val * BitVec.ofNat 32 256 = _
    rw [← BitVec.ofNat_mul, ← BitVec.ofNat_add]
    congr 1
    omega
  have H := scratch m c t.val t.isLt
  have hout : (outsAt0 m c t.val t.isLt).1 = k0_pay1 (k0_pay5 (grid0.coords t) (iblk m c 3 t) (outsAt0 m c t.val t.isLt).2.2.2
      (outsAt0 m c t.val t.isLt).2.2.1 (iblk m c 1 t) (outsAt0 m c t.val t.isLt).2.1) (iblk m c 5 t) := by
    by_cases h0 : t.val % 32 = 0
    · rw [st_A m c t h0]
    · rw [st_B m c t h0 (by have := t.isLt; omega)]
  rw [hout, pay1_apply, pay5_apply (grid0.coords t) (words m c) (Last (words m c)) _ _ _ _ _ _ b q hv (fun s => blk_row m c t s) H.2.2,
    blk_bias m c t q r hr]
  unfold value merged words
  simp only [H.1, H.2.1, blk_w m c t q _ r hr]

/-- The kernel's result array, element by element: the product of `x` with the merged weight, plus the bias, cut off
    below at zero. -/
theorem result (c : Dev nD) (b : Fin 4096) (r : Fin 8192) :
    Cert.KernelIdeal.Value.G6 m c (ix2 b r) =
      value (m ((c : Thread nD τ).loc main_arg0)) (m ((c : Thread nD τ).loc main_arg1)) (m ((c : Thread nD τ).loc main_arg2))
        (m ((c : Thread nD τ).loc main_arg3)) (m ((c : Thread nD τ).loc main_arg4)) b r := by
  have hb := b.isLt
  have hr := r.isLt
  have hpt : Value.pt6Of (ix2 b r) = r.val / 256 := by
    show 32 * (b.val / 4096 - 0) + 1 * (r.val / 256 - 0) = _
    omega
  have hN : cfg0.N = 32 := N_0
  have hlt : Value.pt6Of (ix2 b r) < cfg0.N := by rw [hpt, hN]; omega
  have hloc : Value.loc6Of (ix2 b r) = ix2 b (⟨r.val % 256, Nat.mod_lt _ (by decide)⟩ : Fin 256) := by
    funext a
    match a with
    | ⟨0, _⟩ => exact Fin.ext (Nat.mod_eq_of_lt hb)
    | ⟨1, _⟩ => rfl
  have hsweep := Value.outsAt0_sweep m c (Value.pt6Of (ix2 b r)) hlt
  unfold Value.G6
  rw [dif_pos hlt, ← hsweep, hloc]
  exact block m c ⟨Value.pt6Of (ix2 b r), hlt⟩ b ⟨r.val % 256, Nat.mod_lt _ (by decide)⟩ r
    (by show r.val = 256 * Value.pt6Of (ix2 b r) + r.val % 256; rw [hpt]; omega)

end Cert.KernelIdeal.Body

end
-- ==== Proof.Rows.lean ====
/- The reference's scatter of whole rows read at an element: the last update of the row where one has its index, the
   operand elsewhere. -/
module

public import proofs.«01_k».proof.Proof.Gen.ReferenceIdeal
public import Idealize.ShloMosaic.Lib.Routing.OpsPair
public import Idealize.ShloMosaic.Lib.Routing.OpsSet

@[expose] public section

set_option maxRecDepth 16384

noncomputable section

namespace Cert.ReferenceIdeal.Rows

open Cert.ReferenceIdeal Idealize.ShloMosaic Idealize.ShloMosaic.Routing

/-- A fold that keeps the last value written is that value, when some position writes and every later one does not. -/
theorem foldl_last {α β : Type} (p : β → Prop) [DecidablePred p] (g : β → α) (n : β) (hn : p n) :
    ∀ (l : List β) (a : α), n ∈ l → l.Pairwise (fun x y => x = n → ¬ p y) →
      l.foldl (fun a k => if p k then g k else a) a = g n
  | [], _, h, _ => absurd h List.not_mem_nil
  | k :: l, a, h, hl => by
    rw [List.pairwise_cons] at hl
    rw [List.foldl_cons]
    by_cases hk : k = n
    · subst hk
      rw [if_pos hn]
      have hl' := fun y hy => hl.1 y hy rfl
      clear hl h
      induction l with
      | nil => rfl
      | cons y l ih =>
        rw [List.foldl_cons, if_neg (hl' y List.mem_cons_self)]
        exact ih fun z hz => hl' z (List.mem_cons_of_mem _ hz)
    · exact foldl_last p g n hn l _ ((List.mem_cons.1 h).resolve_left fun e => hk e.symm) hl.2

/-- Update `(s, k')` lands at row `r`, column `k`, exactly when its index word is `r`, read signed, and the columns agree. -/
theorem lands (d : ScatterDims S8192x1024 S512x1 S512x1024) (huw : d.updateWindowDims = [1]) (hiw : d.insertedWindowDims = [0])
    (hsd : d.scatterDimsToOperandDims = [0]) (hiv : d.indexVectorDim = 1) (idx : IVec S512x1 32) (s : Fin 512) (k' k : Fin 1024) (r : Fin 8192) :
    d.resultIdx? (ValueIdx.ix2 s k') idx = some (ValueIdx.ix2 r k) ↔ (idx (ValueIdx.ix2 s 0)).toInt = (r.val : Int) ∧ k' = k := by
  obtain ⟨uw, iw, sd, iv, wf⟩ := d
  dsimp only at huw hiw hsd hiv
  subst huw hiw hsd hiv
  set d : ScatterDims S8192x1024 S512x1 S512x1024 := ⟨[1], [0], [0], 1, wf⟩ with hd
  have hwin0 : d.window (ValueIdx.ix2 s k') 0 = 0 := rfl
  have hwin1 : d.window (ValueIdx.ix2 s k') 1 = k'.val := rfl
  have hst1 : d.start (ValueIdx.ix2 s k') idx 1 = 0 := rfl
  have hst0 : d.start (ValueIdx.ix2 s k') idx 0 = (idx (ValueIdx.ix2 s 0)).toInt := by
    show (idx _).toInt = _
    congr 2
    funext b
    match b with
    | ⟨0, _⟩ => rfl
    | ⟨1, _⟩ => rfl
  rw [resultIdx?_eq_some]
  constructor
  · intro h
    have h0 := h 0
    have h1 := h 1
    rw [hst0, hwin0] at h0
    rw [hst1, hwin1] at h1
    refine ⟨by simpa using h0, Fin.ext ?_⟩
    have : (k'.val : Int) = k.val := by simpa using h1
    omega
  · rintro ⟨h0, rfl⟩ a
    match a with
    | ⟨0, _⟩ => show d.start _ idx 0 + (d.window _ 0 : Int) = _; rw [hst0, hwin0, h0]; exact add_zero _
    | ⟨1, _⟩ => show d.start _ idx 1 + (d.window _ 1 : Int) = _; rw [hst1, hwin1]; exact zero_add _

/-- A row that some update names holds the last such update. -/
theorem scatter_hit {α : Type} (d : ScatterDims S8192x1024 S512x1 S512x1024) (huw : d.updateWindowDims = [1]) (hiw : d.insertedWindowDims = [0])
    (hsd : d.scatterDimsToOperandDims = [0]) (hiv : d.indexVectorDim = 1) (w : S8192x1024.Idx → α) (idx : IVec S512x1 32) (upd : S512x1024.Idx → α)
    (r : Fin 8192) (k : Fin 1024) (s : Fin 512) (hs : (idx (ValueIdx.ix2 s 0)).toInt = (r.val : Int))
    (hlast : ∀ t, s < t → (idx (ValueIdx.ix2 t 0)).toInt ≠ (r.val : Int)) :
    Host.scatter d (fun _ b => b) w idx upd (ValueIdx.ix2 r k) = upd (ValueIdx.ix2 s k) := by
  rw [scatter_at]
  have hsymm : ∀ n : Fin S512x1024.numel, ∃ (ha : n.val / 1024 < 512),
      S512x1024.rowMajor.symm n = ValueIdx.ix2 (⟨n.val / 1024, ha⟩ : Fin 512) (⟨n.val % 1024, Nat.mod_lt _ (by decide)⟩ : Fin 1024) := by
    intro n
    have hn : n.val < 512 * 1024 := n.isLt
    exact ⟨by omega, symm22 (A := 512) (B := 1024) n (by omega) (Nat.mod_lt _ (by decide))⟩
  have key := foldl_last (fun n => d.resultIdx? (S512x1024.rowMajor.symm n) idx = some (ValueIdx.ix2 r k))
    (fun n => upd (S512x1024.rowMajor.symm n)) (S512x1024.rowMajor (ValueIdx.ix2 s k))
    (by rw [Equiv.symm_apply_apply]; exact (lands d huw hiw hsd hiv idx s k k r).2 ⟨hs, rfl⟩)
    (List.finRange S512x1024.numel) (w (ValueIdx.ix2 r k)) (List.mem_finRange _)
    ((List.pairwise_lt_finRange _).imp fun {x y} hxy hx hy => by
      obtain ⟨ha, e⟩ := hsymm y
      rw [e, lands d huw hiw hsd hiv] at hy
      have hv : x.val = s.val * 1024 + k.val := by
        rw [hx]; exact Shape.rowMajor_val_two _
      have hk : y.val % 1024 = k.val := congrArg Fin.val hy.2
      refine hlast _ ?_ hy.1
      rw [Fin.lt_def] at hxy ⊢
      show s.val < y.val / 1024
      omega)
  rw [Equiv.symm_apply_apply] at key
  exact key

/-- A row that no update names keeps the operand's. -/
theorem scatter_none {α : Type} (d : ScatterDims S8192x1024 S512x1 S512x1024) (huw : d.updateWindowDims = [1]) (hiw : d.insertedWindowDims = [0])
    (hsd : d.scatterDimsToOperandDims = [0]) (hiv : d.indexVectorDim = 1) (w : S8192x1024.Idx → α) (idx : IVec S512x1 32) (upd : S512x1024.Idx → α)
    (r : Fin 8192) (k : Fin 1024) (hnone : ∀ t, (idx (ValueIdx.ix2 t 0)).toInt ≠ (r.val : Int)) :
    Host.scatter d (fun _ b => b) w idx upd (ValueIdx.ix2 r k) = w (ValueIdx.ix2 r k) :=
  scatter_set_miss d w idx upd _ fun j hj => by
    rw [ValueIdx.eq_ix2 j] at hj
    exact hnone _ ((lands d huw hiw hsd hiv idx _ _ k r).1 hj).1

end Cert.ReferenceIdeal.Rows

end
-- ==== Proof.Reference.lean ====
/- The reference's result read at an element: where no index word is negative, the same function of the arguments as the
   kernel's. -/
module

public import proofs.«01_k».proof.Proof.Gen.ReferenceIdeal.Run
public import proofs.«01_k».proof.Proof.Gen.Pre_nonnegative
public import proofs.«01_k».proof.Proof.Merged
public import proofs.«01_k».proof.Proof.Rows
public import Idealize.ShloMosaic.Lib.Pointwise.IndexBridge
public import Idealize.ShloMosaic.Lib.ReduceAll

@[expose] public section

set_option maxRecDepth 16384

noncomputable section

namespace Cert.ReferenceIdeal.Rows

open Cert.ReferenceIdeal Cert.ReferenceIdeal.Gen Idealize.ShloMosaic
open Cert.KernelIdeal.Body (merged merged_hit merged_none last_cases value)

/-- A word that is not negative read signed is a row number exactly when it is that number's word. -/
theorem word_eq (v : BitVec 32) (r : Fin 8192) : v.toInt = (r.val : Int) ↔ v = BitVec.ofNat 32 r.val := by
  have hr : (BitVec.ofNat 32 r.val).toInt = (r.val : Int) := by
    have := r.isLt
    rw [BitVec.toInt_ofNat', Int.bmod_def]
    omega
  rw [← hr]
  exact BitVec.toInt_inj

/-- The precondition: no index word is negative. -/
theorem nonneg (x : FVec Ideal S4096x1024 .f32) (idx : IVec S512 32) (upd : FVec Ideal S512x1024 .f32) (w : FVec Ideal S8192x1024 .f32)
    (bias : FVec Ideal S8192 .f32) (h : Cert.Pre_nonnegative.fn x idx upd w bias = fun _ => 1#1) (s : Fin 512) :
    0 ≤ (idx (ix1 s)).toInt := by
  have e := congrFun h (fun a => a.elim0)
  unfold Cert.Pre_nonnegative.fn at e
  haveI : Subsingleton Cert.Pre_nonnegative.S_.Idx := ⟨fun a b => funext fun i => i.elim0⟩
  have hs := Host.reduce_andi_all _ _ _ _ _ e (ix1 s)
  pointwise at hs
  change BitVec.ofBool (BitVec.sle 0#32 (idx (ix1 s))) = 1#1 at hs
  by_contra hn
  rw [show BitVec.sle 0#32 (idx (ix1 s)) = false by
    rw [BitVec.sle_eq_decide, decide_eq_false_iff_not]; simpa using hn] at hs
  exact absurd hs (by decide)

/-- The index words as the scatter takes them: a negative word has the number of rows added; no word is negative. -/
theorem wrapped (idx : IVec S512 32) (hpos : ∀ s, 0 ≤ (idx (ix1 s)).toInt) (s : Fin 512) :
    broadcastInDim S512x1 ![0] bcast_S512_S512x1_0 (select (cmpi .slt idx (broadcastInDim S512 ![] bcast_S_S512 (constantI S_ 32 0#32)))
      (addi idx (broadcastInDim S512 ![] bcast_S_S512 (constantI S_ 32 8192#32))) idx) (ix2 s 0) = idx (ix1 s) := by
  pointwise
  have h : IntOp.cmpi .slt (idx (ix1 s)) 0#32 = 0#1 := by
    show BitVec.ofBool (BitVec.slt _ _) = _
    rw [show BitVec.slt (idx (ix1 s)) 0#32 = false by
      rw [BitVec.slt_eq_decide, decide_eq_false_iff_not]; simpa using hpos s]
    rfl
  rw [h]
  rfl

/-- One element of the scattered weight. -/
theorem scattered (idx : IVec S512 32) (hpos : ∀ s, 0 ≤ (idx (ix1 s)).toInt) (w : FVec Ideal S8192x1024 .f32)
    (upd : FVec Ideal S512x1024 .f32) (r : Fin 8192) (k : Fin 1024) :
    Host.scatter scatter_S8192x1024_S512x1_S512x1024_1_0_0_1 (fun _ b => b) w
      (broadcastInDim S512x1 ![0] bcast_S512_S512x1_0 (select (cmpi .slt idx (broadcastInDim S512 ![] bcast_S_S512 (constantI S_ 32 0#32)))
        (addi idx (broadcastInDim S512 ![] bcast_S_S512 (constantI S_ 32 8192#32))) idx)) upd (ix2 r k)
    = merged (fun s => idx (ix1 s)) (fun s => upd (ix2 s k)) (w (ix2 r k)) (BitVec.ofNat 32 r.val) := by
  have hw := wrapped idx hpos
  rcases last_cases (fun s => idx (ix1 s)) (BitVec.ofNat 32 r.val) with hnone | ⟨s, hs, hlast⟩
  · rw [merged_none _ _ _ _ hnone]
    simp only [ix2_eq_valueIdx] at hw ⊢
    refine scatter_none _ rfl rfl rfl rfl w _ upd r k fun t ht => ?_
    rw [hw] at ht
    exact hnone t ((word_eq _ r).1 ht)
  · rw [merged_hit _ _ _ _ s hs hlast]
    simp only [ix2_eq_valueIdx] at hw ⊢
    refine scatter_hit _ rfl rfl rfl rfl w _ upd r k s ?_ fun t hst ht => ?_
    · rw [hw]
      exact (word_eq _ r).2 hs
    · rw [hw] at ht
      exact hlast t hst ((word_eq _ r).1 ht)

/-- One element of the reference's result. -/
theorem reference (x : FVec Ideal S4096x1024 .f32) (idx : IVec S512 32) (upd : FVec Ideal S512x1024 .f32) (w : FVec Ideal S8192x1024 .f32)
    (bias : FVec Ideal S8192 .f32) (hpos : ∀ s, 0 ≤ (idx (ix1 s)).toInt) (b : Fin 4096) (r : Fin 8192) :
    maximumf (addf (Host.dotGeneral dot_S4096x1024_S1024x8192_S4096x8192_1_0_0_1_n_n none x (transpose S1024x8192 [1, 0]
        (Host.scatter scatter_S8192x1024_S512x1_S512x1024_1_0_0_1 (fun _ b => b) w
          (broadcastInDim S512x1 ![0] bcast_S512_S512x1_0 (select (cmpi .slt idx (broadcastInDim S512 ![] bcast_S_S512 (constantI S_ 32 0#32)))
            (addi idx (broadcastInDim S512 ![] bcast_S_S512 (constantI S_ 32 8192#32))) idx)) upd) transposes_S8192x1024_S1024x8192_1_0))
        (broadcastInDim S4096x8192 ![0, 1] bcast_S1x8192_S4096x8192_0_1 (broadcastInDim S1x8192 ![1] bcast_S8192_S1x8192_1 bias)))
      (broadcastInDim S4096x8192 ![] bcast_S_S4096x8192 (constant (F := Ideal) S_ .f32 0x00000000#32)) (ix2 b r)
    = value x idx upd w bias b r := by
  generalize hS : Host.scatter scatter_S8192x1024_S512x1_S512x1024_1_0_0_1 (fun _ b => b) w _ upd = S
  have hk : ∀ k, S (ix2 r k) = merged (fun s => idx (ix1 s)) (fun s => upd (ix2 s k)) (w (ix2 r k)) (BitVec.ofNat 32 r.val) :=
    fun k => by rw [← hS]; exact scattered idx hpos w upd r k
  pointwise
  unfold value
  simp only [hk]

end Cert.ReferenceIdeal.Rows

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_nonnegative
public import proofs.«01_k».proof.Proof.Gen.ReferenceIdeal.Run
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end, leaves its arguments as they were and every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Run on the same arguments, with no index negative, the kernel and the reference end with the same result array. -/
theorem algebraic_KernelIdeal_ReferenceIdeal_pre_nonnegative : algebraic_KernelIdeal_ReferenceIdeal_pre_nonnegative := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  obtain ⟨b, r, rfl⟩ : ∃ (b : Fin 4096) (r : Fin 8192), i = ix2 b r := ⟨i 0, i 1, eq_ix2 i⟩
  have hpos := Cert.ReferenceIdeal.Rows.nonneg _ _ _ _ _ (hpre c)
  exact (Cert.ReferenceIdeal.Rows.reference _ _ _ _ _ hpos b r).trans (Cert.KernelIdeal.Body.result m c b r).symm

/-- Every claim of the statement. -/
theorem claim : Cert.Claim := ⟨Cert.Kernel.Gen.facts, Cert.KernelIdeal.Gen.facts, Cert.ReferenceIdeal.Gen.facts, Cert.Pre_nonnegative.Gen.facts,
  fun m ρ _ => Cert.Kernel.Gen.frame m ρ, fun m ρ _ => Cert.KernelIdeal.Gen.frame m ρ, fun m ρ _ => Cert.KernelIdeal.Gen.frame m ρ,
  quiescent_ReferenceIdeal,
  fun m ρ _ => quiescent_ReferenceIdeal m ρ trivial,
  (trivial : preserves_Kernel_KernelIdeal), algebraic_KernelIdeal_ReferenceIdeal_pre_nonnegative⟩

end Cert.Proof

end
